-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_affine [hPre_unit_affine : Cert.Pre_unit_affine.Facts] (m : (ℓ : Loc Cert.KernelIdeal.nD Cert.KernelIdeal.τ Cert.KernelIdeal.sig) → Buf (Elt Ideal) ℓ) : Prop :=
  ∀ c : Dev Cert.KernelIdeal.nD,
    (Cert.Pre_unit_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_affine [hPre_unit_affine : Cert.Pre_unit_affine.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_unit_affine [hKernelIdeal : Cert.KernelIdeal.Facts] [hPre_unit_affine : Cert.Pre_unit_affine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_affine m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_unit_affine [hReferenceIdeal : Cert.ReferenceIdeal.Facts] [hPre_unit_affine : Cert.Pre_unit_affine.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_affine m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_unit_affine [hKernelIdeal : Cert.KernelIdeal.Facts] [hReferenceIdeal : Cert.ReferenceIdeal.Facts] [hPre_unit_affine : Cert.Pre_unit_affine.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_affine m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_unit_affine : Cert.Pre_unit_affine.Facts),
    quiescent_Kernel (hKernel := hKernel)
    ∧ quiescent_KernelIdeal (hKernelIdeal := hKernelIdeal)
    ∧ quiescent_KernelIdeal_pre_unit_affine (hKernelIdeal := hKernelIdeal) (hPre_unit_affine := hPre_unit_affine)
    ∧ quiescent_ReferenceIdeal (hReferenceIdeal := hReferenceIdeal)
    ∧ quiescent_ReferenceIdeal_pre_unit_affine (hReferenceIdeal := hReferenceIdeal) (hPre_unit_affine := hPre_unit_affine)
    ∧ preserves_Kernel_KernelIdeal
    ∧ algebraic_KernelIdeal_ReferenceIdeal_pre_unit_affine (hKernelIdeal := hKernelIdeal) (hReferenceIdeal := hReferenceIdeal) (hPre_unit_affine := hPre_unit_affine)
-- ==== Pre_unit_affine.lean ====
abbrev S2x3x224x224 : Shape := ⟨4, ![2, 3, 224, 224]⟩
abbrev S6x64 : Shape := ⟨2, ![6, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S3x128 : Shape := ⟨2, ![3, 128]⟩
abbrev S_ : Shape := ⟨0, ![]⟩
abbrev S384 : Shape := ⟨1, ![384]⟩

class Facts : Prop where
  bcast_S_S64 : S_.BroadcastsInDim S64 (![] : Fin 0 → Fin S64.rank)
  bcast_S_S128 : S_.BroadcastsInDim S128 (![] : Fin 0 → Fin S128.rank)
  concatenates_S64_S64_S128_S128_S384_d0 : Shape.Concatenates [S64, S64, S128, S128] S384 0

variable [Facts]

def fn {F : FTy → Type} [FloatOps F] (main_arg0 : FVec F S2x3x224x224 .f32) (main_arg1 : FVec F S6x64 .f32) (main_arg2 : FVec F S64 .f32) (main_arg3 : FVec F S64 .f32) (main_arg4 : FVec F S64 .f32) (main_arg5 : FVec F S64x128 .f32) (main_arg6 : FVec F S128 .f32) (main_arg7 : FVec F S128 .f32) (main_arg8 : FVec F S128 .f32) (main_arg9 : FVec F S128x256 .f32) (main_arg10 : FVec F S256 .f32) (main_arg11 : FVec F S3x128 .f32) (main_arg12 : FVec F S128 .f32) (main_arg13 : FVec F S128x256 .f32) (main_arg14 : FVec F S256 .f32) : IVec S384 1 :=
  let main_cst : FVec F S_ .f32 := constant S_ .f32 0x3F800000#32
  let main_v0 : FVec F S64 .f32 := broadcastInDim S64 ![] bcast_S_S64 main_cst
  let main_v1 : IVec S64 1 := cmpf .oeq main_arg3 main_v0
  let main_cst_0 : FVec F S_ .f32 := constant S_ .f32 0x00000000#32
  let main_v2 : FVec F S64 .f32 := broadcastInDim S64 ![] bcast_S_S64 main_cst_0
  let main_v3 : IVec S64 1 := cmpf .oeq main_arg4 main_v2
  let main_cst_1 : FVec F S_ .f32 := constant S_ .f32 0x3F800000#32
  let main_v4 : FVec F S128 .f32 := broadcastInDim S128 ![] bcast_S_S128 main_cst_1
  let main_v5 : IVec S128 1 := cmpf .oeq main_arg7 main_v4
  let main_cst_2 : FVec F S_ .f32 := constant S_ .f32 0x00000000#32
  let main_v6 : FVec F S128 .f32 := broadcastInDim S128 ![] bcast_S_S128 main_cst_2
  let main_v7 : IVec S128 1 := cmpf .oeq main_arg8 main_v6
  let main_v8 : IVec S384 1 := concatenate S384 0 [⟨S64, main_v1⟩, ⟨S64, main_v3⟩, ⟨S128, main_v5⟩, ⟨S128, main_v7⟩] concatenates_S64_S64_S128_S128_S384_d0
  main_v8
-- ==== Kernel.lean ====
abbrev S2x3x224x224 : Shape := ⟨4, ![2, 3, 224, 224]⟩
abbrev S6x64 : Shape := ⟨2, ![6, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S3x128 : Shape := ⟨2, ![3, 128]⟩
abbrev S2x50176x256 : Shape := ⟨3, ![2, 50176, 256]⟩
abbrev S2x224x224x3 : Shape := ⟨4, ![2, 224, 224, 3]⟩
abbrev S2x50176x3 : Shape := ⟨3, ![2, 50176, 3]⟩
abbrev S_ : Shape := ⟨0, ![]⟩
abbrev S1x3x56x224 : Shape := ⟨4, ![1, 3, 56, 224]⟩
abbrev S1x12544x256 : Shape := ⟨3, ![1, 12544, 256]⟩
abbrev S64x64 : Shape := ⟨2, ![64, 64]⟩
abbrev S128x128 : Shape := ⟨2, ![128, 128]⟩
abbrev S3x56x224 : Shape := ⟨3, ![3, 56, 224]⟩
abbrev S3x12544 : Shape := ⟨2, ![3, 12544]⟩
abbrev S12544 : Shape := ⟨1, ![12544]⟩
abbrev S1x12544 : Shape := ⟨2, ![1, 12544]⟩
abbrev S6x12544 : Shape := ⟨2, ![6, 12544]⟩
abbrev S12544x64 : Shape := ⟨2, ![12544, 64]⟩
abbrev S1x64 : Shape := ⟨2, ![1, 64]⟩
abbrev S12544x128 : Shape := ⟨2, ![12544, 128]⟩
abbrev S1x128 : Shape := ⟨2, ![1, 128]⟩
abbrev S12544x256 : Shape := ⟨2, ![12544, 256]⟩
abbrev S1x256 : Shape := ⟨2, ![1, 256]⟩

abbrev nBuf : Space → Nat
  | .hbm => 24
  | .vmem => 18
  | .smem => 0
  | _ => 0

abbrev bufTy : (tb : Table) → Fin (tcTables nBuf tb) → BufTy
  | .hbm, ⟨0, _⟩ => ⟨S2x3x224x224, .f32⟩
  | .hbm, ⟨1, _⟩ => ⟨S6x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x256, .f32⟩
  | .hbm, ⟨10, _⟩ => ⟨S256, .f32⟩
  | .hbm, ⟨11, _⟩ => ⟨S3x128, .f32⟩
  | .hbm, ⟨12, _⟩ => ⟨S128, .f32⟩
  | .hbm, ⟨13, _⟩ => ⟨S128x256, .f32⟩
  | .hbm, ⟨14, _⟩ => ⟨S256, .f32⟩
  | .hbm, ⟨15, _⟩ => ⟨S2x50176x256, .f32⟩
  | .hbm, ⟨16, _⟩ => ⟨S2x224x224x3, .f32⟩
  | .hbm, ⟨17, _⟩ => ⟨S2x50176x3, .f32⟩
  | .hbm, ⟨18, _⟩ => ⟨S_, .f32⟩
  | .hbm, ⟨19, _⟩ => ⟨S2x50176x3, .f32⟩
  | .hbm, ⟨20, _⟩ => ⟨S2x50176x3, .f32⟩
  | .hbm, ⟨21, _⟩ => ⟨S_, .f32⟩
  | .hbm, ⟨22, _⟩ => ⟨S2x50176x3, .f32⟩
  | .hbm, ⟨23, _⟩ => ⟨S2x50176x3, .f32⟩
  | .local _ .vmem, ⟨0, _⟩ => ⟨S1x3x56x224, .f32⟩
  | .local _ .vmem, ⟨1, _⟩ => ⟨S1x3x56x224, .f32⟩
  | .local _ .vmem, ⟨2, _⟩ => ⟨S6x64, .f32⟩
  | .local _ .vmem, ⟨3, _⟩ => ⟨S64, .f32⟩
  | .local _ .vmem, ⟨4, _⟩ => ⟨S64, .f32⟩
  | .local _ .vmem, ⟨5, _⟩ => ⟨S64, .f32⟩
  | .local _ .vmem, ⟨6, _⟩ => ⟨S64x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128x256, .f32⟩
  | .local _ .vmem, ⟨11, _⟩ => ⟨S256, .f32⟩
  | .local _ .vmem, ⟨12, _⟩ => ⟨S3x128, .f32⟩
  | .local _ .vmem, ⟨13, _⟩ => ⟨S128, .f32⟩
  | .local _ .vmem, ⟨14, _⟩ => ⟨S128x256, .f32⟩
  | .local _ .vmem, ⟨15, _⟩ => ⟨S256, .f32⟩
  | .local _ .vmem, ⟨16, _⟩ => ⟨S1x12544x256, .f32⟩
  | .local _ .vmem, ⟨17, _⟩ => ⟨S1x12544x256, .f32⟩
  | _, _ => ⟨S2x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_call0_v1 : Ref sig .tc := ⟨.hbm, 16, rfl⟩
abbrev main_call0_v2 : Ref sig .tc := ⟨.hbm, 17, rfl⟩
abbrev main_call0_cst : Ref sig .tc := ⟨.hbm, 18, rfl⟩
abbrev main_call0_v3 : Ref sig .tc := ⟨.hbm, 19, rfl⟩
abbrev main_call0_v4 : Ref sig .tc := ⟨.hbm, 20, rfl⟩
abbrev main_call0_cst_0 : Ref sig .tc := ⟨.hbm, 21, rfl⟩
abbrev main_call0_v5 : Ref sig .tc := ⟨.hbm, 22, rfl⟩
abbrev main_v0_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x56x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x12544x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S2x3x224x224 : Shape := ⟨4, ![2, 3, 224, 224]⟩
abbrev S6x64 : Shape := ⟨2, ![6, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S3x128 : Shape := ⟨2, ![3, 128]⟩
abbrev S2x224x224x3 : Shape := ⟨4, ![2, 224, 224, 3]⟩
abbrev S_ : Shape := ⟨0, ![]⟩
abbrev S2x224x224 : Shape := ⟨3, ![2, 224, 224]⟩
abbrev S2x224x224x1 : Shape := ⟨4, ![2, 224, 224, 1]⟩
abbrev S2x50176x3 : Shape := ⟨3, ![2, 50176, 3]⟩
abbrev S2x50176x6 : Shape := ⟨3, ![2, 50176, 6]⟩
abbrev S2x50176x64 : Shape := ⟨3, ![2, 50176, 64]⟩
abbrev S1x1x64 : Shape := ⟨3, ![1, 1, 64]⟩
abbrev S2x50176 : Shape := ⟨2, ![2, 50176]⟩
abbrev S2x50176x1 : Shape := ⟨3, ![2, 50176, 1]⟩
abbrev S2x50176x128 : Shape := ⟨3, ![2, 50176, 128]⟩
abbrev S1x1x128 : Shape := ⟨3, ![1, 1, 128]⟩
abbrev S2x50176x256 : Shape := ⟨3, ![2, 50176, 256]⟩
abbrev S1x1x256 : Shape := ⟨3, ![1, 1, 256]⟩

abbrev nBuf : Space → Nat
  | .hbm => 171
  | .vmem => 0
  | .smem => 0
  | _ => 0

abbrev hbmTy0_0 (i : Nat) : BufTy := match i % 128 with
  | 0 => ⟨S2x3x224x224, .f32⟩
  | 1 => ⟨S6x64, .f32⟩
  | 2 => ⟨S64, .f32⟩
  | 3 => ⟨S64, .f32⟩
  | 4 => ⟨S64, .f32⟩
  | 5 => ⟨S64x128, .f32⟩
  | 6 => ⟨S128, .f32⟩
  | 7 => ⟨S128, .f32⟩
  | 8 => ⟨S128, .f32⟩
  | 9 => ⟨S128x256, .f32⟩
  | 10 => ⟨S256, .f32⟩
  | 11 => ⟨S3x128, .f32⟩
  | 12 => ⟨S128, .f32⟩
  | 13 => ⟨S128x256, .f32⟩
  | 14 => ⟨S256, .f32⟩
  | 15 => ⟨S2x224x224x3, .f32⟩
  | 16 => ⟨S_, .f32⟩
  | 17 => ⟨S2x224x224x3, .f32⟩
  | 18 => ⟨S2x224x224x3, .f32⟩
  | 19 => ⟨S_, .f32⟩
  | 20 => ⟨S2x224x224x3, .f32⟩
  | 21 => ⟨S2x224x224x3, .f32⟩
  | 22 => ⟨S2x224x224x3, .f32⟩
  | 23 => ⟨S_, .f32⟩
  | 24 => ⟨S2x224x224, .f32⟩
  | 25 => ⟨S2x224x224x1, .f32⟩
  | 26 => ⟨S2x224x224x1, .f32⟩
  | 27 => ⟨S_, .f32⟩
  | 28 => ⟨S2x224x224x1, .f32⟩
  | 29 => ⟨S2x224x224x1, .f32⟩
  | 30 => ⟨S2x224x224x3, .f32⟩
  | 31 => ⟨S2x224x224x3, .f32⟩
  | 32 => ⟨S2x50176x3, .f32⟩
  | 33 => ⟨S2x50176x3, .f32⟩
  | 34 => ⟨S2x50176x6, .f32⟩
  | 35 => ⟨S2x50176x64, .f32⟩
  | 36 => ⟨S1x1x64, .f32⟩
  | 37 => ⟨S2x50176x64, .f32⟩
  | 38 => ⟨S2x50176x64, .f32⟩
  | 39 => ⟨S_, .f32⟩
  | 40 => ⟨S2x50176, .f32⟩
  | 41 => ⟨S2x50176x1, .f32⟩
  | 42 => ⟨S_, .f32⟩
  | 43 => ⟨S2x50176x1, .f32⟩
  | 44 => ⟨S2x50176x1, .f32⟩
  | 45 => ⟨S_, .i32⟩
  | 46 => ⟨S_, .f32⟩
  | 47 => ⟨S2x50176, .f32⟩
  | 48 => ⟨S2x50176x1, .f32⟩
  | 49 => ⟨S_, .f32⟩
  | 50 => ⟨S2x50176x1, .f32⟩
  | 51 => ⟨S2x50176x1, .f32⟩
  | 52 => ⟨S2x50176x64, .f32⟩
  | 53 => ⟨S2x50176x64, .f32⟩
  | 54 => ⟨S2x50176x64, .f32⟩
  | 55 => ⟨S_, .f32⟩
  | 56 => ⟨S_, .f32⟩
  | 57 => ⟨S_, .f32⟩
  | 58 => ⟨S_, .f32⟩
  | 59 => ⟨S2x50176, .f32⟩
  | 60 => ⟨S2x50176x1, .f32⟩
  | 61 => ⟨S2x50176x1, .f32⟩
  | 62 => ⟨S2x50176x1, .f32⟩
  | 63 => ⟨S_, .f32⟩
  | 64 => ⟨S_, .i1⟩
  | 65 => ⟨S_, .f32⟩
  | 66 => ⟨S_, .f32⟩
  | 67 => ⟨S2x50176x1, .f32⟩
  | 68 => ⟨S2x50176x1, .f32⟩
  | 69 => ⟨S2x50176x64, .f32⟩
  | 70 => ⟨S2x50176x64, .f32⟩
  | 71 => ⟨S_, .f32⟩
  | 72 => ⟨S2x50176x1, .f32⟩
  | 73 => ⟨S2x50176x1, .f32⟩
  | 74 => ⟨S2x50176x1, .f32⟩
  | 75 => ⟨S2x50176x64, .f32⟩
  | 76 => ⟨S2x50176x64, .f32⟩
  | 77 => ⟨S1x1x64, .f32⟩
  | 78 => ⟨S2x50176x64, .f32⟩
  | 79 => ⟨S2x50176x64, .f32⟩
  | 80 => ⟨S1x1x64, .f32⟩
  | 81 => ⟨S2x50176x64, .f32⟩
  | 82 => ⟨S2x50176x64, .f32⟩
  | 83 => ⟨S_, .f32⟩
  | 84 => ⟨S2x50176x64, .f32⟩
  | 85 => ⟨S2x50176x64, .f32⟩
  | 86 => ⟨S2x50176x64, .f32⟩
  | 87 => ⟨S_, .f32⟩
  | 88 => ⟨S2x50176x64, .f32⟩
  | 89 => ⟨S2x50176x64, .f32⟩
  | 90 => ⟨S2x50176x64, .f32⟩
  | 91 => ⟨S2x50176x64, .f32⟩
  | 92 => ⟨S2x50176x128, .f32⟩
  | 93 => ⟨S1x1x128, .f32⟩
  | 94 => ⟨S2x50176x128, .f32⟩
  | 95 => ⟨S2x50176x128, .f32⟩
  | 96 => ⟨S_, .f32⟩
  | 97 => ⟨S2x50176, .f32⟩
  | 98 => ⟨S2x50176x1, .f32⟩
  | 99 => ⟨S_, .f32⟩
  | 100 => ⟨S2x50176x1, .f32⟩
  | 101 => ⟨S2x50176x1, .f32⟩
  | 102 => ⟨S_, .i32⟩
  | 103 => ⟨S_, .f32⟩
  | 104 => ⟨S2x50176, .f32⟩
  | 105 => ⟨S2x50176x1, .f32⟩
  | 106 => ⟨S_, .f32⟩
  | 107 => ⟨S2x50176x1, .f32⟩
  | 108 => ⟨S2x50176x1, .f32⟩
  | 109 => ⟨S2x50176x128, .f32⟩
  | 110 => ⟨S2x50176x128, .f32⟩
  | 111 => ⟨S2x50176x128, .f32⟩
  | 112 => ⟨S_, .f32⟩
  | 113 => ⟨S_, .f32⟩
  | 114 => ⟨S_, .f32⟩
  | 115 => ⟨S_, .f32⟩
  | 116 => ⟨S2x50176, .f32⟩
  | 117 => ⟨S2x50176x1, .f32⟩
  | 118 => ⟨S2x50176x1, .f32⟩
  | 119 => ⟨S2x50176x1, .f32⟩
  | 120 => ⟨S_, .f32⟩
  | 121 => ⟨S_, .i1⟩
  | 122 => ⟨S_, .f32⟩
  | 123 => ⟨S_, .f32⟩
  | 124 => ⟨S2x50176x1, .f32⟩
  | 125 => ⟨S2x50176x1, .f32⟩
  | 126 => ⟨S2x50176x128, .f32⟩
  | 127 => ⟨S2x50176x128, .f32⟩
  | _ => ⟨S2x3x224x224, .f32⟩

abbrev hbmTy0_1 (i : Nat) : BufTy := match i % 128 with
  | 0 => ⟨S_, .f32⟩
  | 1 => ⟨S2x50176x1, .f32⟩
  | 2 => ⟨S2x50176x1, .f32⟩
  | 3 => ⟨S2x50176x1, .f32⟩
  | 4 => ⟨S2x50176x128, .f32⟩
  | 5 => ⟨S2x50176x128, .f32⟩
  | 6 => ⟨S1x1x128, .f32⟩
  | 7 => ⟨S2x50176x128, .f32⟩
  | 8 => ⟨S2x50176x128, .f32⟩
  | 9 => ⟨S1x1x128, .f32⟩
  | 10 => ⟨S2x50176x128, .f32⟩
  | 11 => ⟨S2x50176x128, .f32⟩
  | 12 => ⟨S_, .f32⟩
  | 13 => ⟨S2x50176x128, .f32⟩
  | 14 => ⟨S2x50176x128, .f32⟩
  | 15 => ⟨S2x50176x128, .f32⟩
  | 16 => ⟨S_, .f32⟩
  | 17 => ⟨S2x50176x128, .f32⟩
  | 18 => ⟨S2x50176x128, .f32⟩
  | 19 => ⟨S2x50176x128, .f32⟩
  | 20 => ⟨S2x50176x128, .f32⟩
  | 21 => ⟨S2x50176x256, .f32⟩
  | 22 => ⟨S1x1x256, .f32⟩
  | 23 => ⟨S2x50176x256, .f32⟩
  | 24 => ⟨S2x50176x256, .f32⟩
  | 25 => ⟨S2x50176x128, .f32⟩
  | 26 => ⟨S1x1x128, .f32⟩
  | 27 => ⟨S2x50176x128, .f32⟩
  | 28 => ⟨S2x50176x128, .f32⟩
  | 29 => ⟨S_, .f32⟩
  | 30 => ⟨S2x50176x128, .f32⟩
  | 31 => ⟨S2x50176x128, .f32⟩
  | 32 => ⟨S2x50176x128, .f32⟩
  | 33 => ⟨S_, .f32⟩
  | 34 => ⟨S2x50176x128, .f32⟩
  | 35 => ⟨S2x50176x128, .f32⟩
  | 36 => ⟨S2x50176x128, .f32⟩
  | 37 => ⟨S2x50176x128, .f32⟩
  | 38 => ⟨S2x50176x256, .f32⟩
  | 39 => ⟨S1x1x256, .f32⟩
  | 40 => ⟨S2x50176x256, .f32⟩
  | 41 => ⟨S2x50176x256, .f32⟩
  | 42 => ⟨S2x50176x256, .f32⟩
  | _ => ⟨S2x3x224x224, .f32⟩

abbrev hbmTy (i : Nat) : BufTy := match i / 128 with
  | 0 => hbmTy0_0 i
  | 1 => hbmTy0_1 i
  | _ => ⟨S2x3x224x224, .f32⟩

abbrev bufTy : (tb : Table) → Fin (tcTables nBuf tb) → BufTy
  | .hbm, ⟨i, _⟩ => hbmTy i
  | _, _ => ⟨S2x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v5 : Ref sig .tc := ⟨.hbm, 26, rfl⟩
abbrev main_cst_1 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_c : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_cst_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_cst_1 : Ref sig .tc := ⟨.hbm, 56, rfl⟩
abbrev main_call1_v8 : Ref sig .tc := ⟨.hbm, 57, rfl⟩
abbrev main_call1_cst_2 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_cst_3 : Ref sig .tc := ⟨.hbm, 63, rfl⟩
abbrev main_call1_v13 : Ref sig .tc := ⟨.hbm, 64, rfl⟩
abbrev main_call1_cst_4 : Ref sig .tc := ⟨.hbm, 65, rfl⟩
abbrev main_call1_call0_v0 : Ref sig .tc := ⟨.hbm, 66, rfl⟩
abbrev main_call1_call0_v1 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_cst_4 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_cst_5 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_cst_6 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_cst_7 : Ref sig .tc := ⟨.hbm, 96, rfl⟩
abbrev main_v46 : Ref sig .tc := ⟨.hbm, 97, rfl⟩
abbrev main_v47 : Ref sig .tc := ⟨.hbm, 98, rfl⟩
abbrev main_cst_8 : Ref sig .tc := ⟨.hbm, 99, rfl⟩
abbrev main_v48 : Ref sig .tc := ⟨.hbm, 100, rfl⟩
abbrev main_v49 : Ref sig .tc := ⟨.hbm, 101, rfl⟩
abbrev main_c_9 : Ref sig .tc := ⟨.hbm, 102, rfl⟩
abbrev main_call2_cst : Ref sig .tc := ⟨.hbm, 103, rfl⟩
abbrev main_call2_v0 : Ref sig .tc := ⟨.hbm, 104, rfl⟩
abbrev main_call2_v1 : Ref sig .tc := ⟨.hbm, 105, rfl⟩
abbrev main_call2_cst_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_v6 : Ref sig .tc := ⟨.hbm, 111, rfl⟩
abbrev main_call2_v7 : Ref sig .tc := ⟨.hbm, 112, rfl⟩
abbrev main_call2_cst_1 : Ref sig .tc := ⟨.hbm, 113, rfl⟩
abbrev main_call2_v8 : Ref sig .tc := ⟨.hbm, 114, rfl⟩
abbrev main_call2_cst_2 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_v12 : Ref sig .tc := ⟨.hbm, 119, rfl⟩
abbrev main_call2_cst_3 : Ref sig .tc := ⟨.hbm, 120, rfl⟩
abbrev main_call2_v13 : Ref sig .tc := ⟨.hbm, 121, rfl⟩
abbrev main_call2_cst_4 : Ref sig .tc := ⟨.hbm, 122, rfl⟩
abbrev main_call2_call0_v0 : Ref sig .tc := ⟨.hbm, 123, rfl⟩
abbrev main_call2_call0_v1 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_cst_10 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_cst_11 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_cst_12 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_cst_13 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_cst_14 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩

abbrev nD : Nat := 1
abbrev τ : Topo := Topo.v7x

variable {F : FTy → Type} [FloatOps F]
-- ==== Proof.Token.lean ====
/-
  One output row of the network, as mathematics over the extended reals.

  A pixel is three numbers `x`. Both programs send it through the same chain: its direction (the pixel divided by its
  length), a dense layer on pixel and direction, a layer norm, a gelu, a second dense layer, layer norm and gelu, a
  third dense layer; and, beside it, a position branch of two dense layers with a gelu between, added at the end.
  They write four of these steps differently, and this file defines both spellings and proves them equal:

  * the direction: divided by the length, or multiplied by the length's reciprocal;
  * the layer norm: the mean as a sum divided by the width, or as a sum of terms each multiplied by the reciprocal of
    the width; and divided by the square root, or multiplied by the reciprocal square root;
  * the gelu: by `erfc (-x)`, or by `1 + erf x`;
  * the two last biases: each added to its own branch, or the two added up first.
-/
module

public import Idealize.ShloMosaic.PureOps.Ideal
public import Idealize.ShloMosaic.PureOps.Ideal.Laws
public import Idealize.ShloMosaic.Lib.IdealHost
public import Mathlib.Data.EReal.Operations
public import Mathlib.Data.EReal.Inv

@[expose] public section

noncomputable section

namespace Cert.Token

open Idealize.ShloMosaic
open scoped BigOperators

/-! ## The constants both programs print -/

/-- The small number added to a pixel's length. -/
abbrev lengthEps : EReal := Ideal.ofBits .f32 0x358637BD#32
/-- The small number added to a variance. -/
abbrev varEps : EReal := Ideal.ofBits .f32 0x3727C5AC#32
/-- The constant one half. -/
abbrev half : EReal := Ideal.ofBits .f32 0x3F000000#32
/-- The float nearest one over the square root of two. -/
abbrev invSqrt2 : EReal := Ideal.ofBits .f32 0x3F3504F3#32

/-- The small number added to a length is a positive real. -/
theorem lengthEps_pos : ∃ e : ℝ, 0 < e ∧ lengthEps = (e : EReal) := by
  refine ⟨8796093 * (2 : ℝ) ^ (-43 : ℤ), by positivity, ?_⟩
  simp [lengthEps, Ideal.ofBits, Ideal.ieee, -EReal.coe_mul]

/-- The small number added to a variance is a positive real. -/
theorem varEps_pos : ∃ e : ℝ, 0 < e ∧ varEps = (e : EReal) := by
  refine ⟨10995116 * (2 : ℝ) ^ (-40 : ℤ), by positivity, ?_⟩
  simp [varEps, Ideal.ofBits, Ideal.ieee, -EReal.coe_mul]

/-- The pattern of sixty-four. -/
theorem ofBits_64 : Ideal.ofBits .f32 0x42800000#32 = ((64 : ℝ) : EReal) := by
  simp [Ideal.ofBits, Ideal.ieee, -EReal.coe_mul]; norm_num
/-- The pattern of one sixty-fourth. -/
theorem ofBits_inv64 : Ideal.ofBits .f32 0x3C800000#32 = (((64 : ℝ)⁻¹ : ℝ) : EReal) := by
  simp [Ideal.ofBits, Ideal.ieee, -EReal.coe_mul]; norm_num
/-- The pattern of one hundred and twenty-eight. -/
theorem ofBits_128 : Ideal.ofBits .f32 0x43000000#32 = ((128 : ℝ) : EReal) := by
  simp [Ideal.ofBits, Ideal.ieee, -EReal.coe_mul]; norm_num
/-- The pattern of one over one hundred and twenty-eight. -/
theorem ofBits_inv128 : Ideal.ofBits .f32 0x3C000000#32 = (((128 : ℝ)⁻¹ : ℝ) : EReal) := by
  simp [Ideal.ofBits, Ideal.ieee, -EReal.coe_mul]; norm_num

/-! ## The steps -/

/-- A dense layer: the features times a weight matrix, plus a bias. -/
def dense {n m : ℕ} (f : Fin n → EReal) (W : Fin n → Fin m → EReal) (b : Fin m → EReal) (j : Fin m) : EReal :=
  (∑ k, f k * W k j) + b j

/-- A pixel's direction: each coordinate divided by the length (plus a small number). -/
def direction (x : Fin 3 → EReal) (c : Fin 3) : EReal :=
  Ideal.div (x c) (Ideal.sqrt (∑ k, x k * x k) + lengthEps)
/-- The direction with the length's reciprocal taken once and multiplied in. -/
def directionR (x : Fin 3 → EReal) (c : Fin 3) : EReal :=
  x c * Ideal.div 1 (Ideal.sqrt (∑ k, x k * x k) + lengthEps)

/-- Pixel and direction, one after the other: the six features of the first dense layer. -/
def features (x d : Fin 3 → EReal) (k : Fin 6) : EReal :=
  if h : k.val < 3 then x ⟨k.val, h⟩ else d ⟨k.val - 3, by omega⟩

/-- A layer norm with gain `g` and offset `o`: centred by the mean, divided by the standard deviation. -/
def layerNorm {n : ℕ} (N : EReal) (h g o : Fin n → EReal) (j : Fin n) : EReal :=
  Ideal.div (h j - Ideal.div (∑ k, h k) N)
    (Ideal.sqrt (Ideal.div (∑ k, (h k - Ideal.div (∑ l, h l) N) * (h k - Ideal.div (∑ l, h l) N)) N + varEps)) * g j + o j
/-- A layer norm with no gain and no offset, its averages taken with the weight `w` inside the sums and its quotient as
    a product with a reciprocal square root. -/
def layerNormR {n : ℕ} (w : EReal) (h : Fin n → EReal) (j : Fin n) : EReal :=
  (h j - ∑ k, h k * w) * Ideal.rsqrt ((∑ k, (h k - ∑ l, h l * w) * (h k - ∑ l, h l * w) * w) + varEps)

/-- The gelu by the complementary error function. -/
def gelu (x : EReal) : EReal := half * x * Ideal.erfc (-x * invSqrt2)
/-- The gelu by the error function. -/
def geluR (x : EReal) : EReal := half * x * (1 + Ideal.erf (x * invSqrt2))

/-! ## The two spellings agree -/

/-- A square is not negative, at the infinities too. -/
theorem mul_self_nonneg (a : EReal) : 0 ≤ a * a := by
  rcases le_total 0 a with h | h
  · exact mul_nonneg h h
  · have h' : 0 ≤ -a := by simpa using EReal.neg_le_neg_iff.mpr h
    have : a * a = -a * -a := by rw [neg_mul_neg]
    rw [this]; exact mul_nonneg h' h'

/-- The square root of something not negative is not negative. -/
theorem sqrt_nonneg {a : EReal} (h : 0 ≤ a) : 0 ≤ Ideal.sqrt a := by
  induction a using EReal.rec with
  | bot => simp at h
  | top => simp
  | coe r =>
    have hr : ¬ r < 0 := not_lt.mpr (EReal.coe_nonneg.mp h)
    rw [Ideal.sqrt_coe, if_neg hr]
    exact EReal.coe_nonneg.mpr (Real.sqrt_nonneg r)

/-- The two directions agree: the divisor is positive. -/
theorem directionR_eq (x : Fin 3 → EReal) : directionR x = direction x := by
  funext c
  refine Ideal.mul_one_div ?_
  obtain ⟨e, he, hE⟩ := lengthEps_pos
  have h0 : 0 ≤ Ideal.sqrt (∑ k, x k * x k) := sqrt_nonneg (Finset.sum_nonneg fun k _ => mul_self_nonneg _)
  have h1 : (0 : EReal) < lengthEps := by rw [hE]; exact EReal.coe_pos.mpr he
  exact ne_of_gt (lt_of_lt_of_le h1 (le_add_of_nonneg_left h0))

/-- A finite factor comes out of a sum of extended reals. -/
theorem sum_mul_coe {n : ℕ} (f : Fin n → EReal) {c : ℝ} (hc : 0 ≤ c) : ∑ k, f k * (c : EReal) = (∑ k, f k) * (c : EReal) := by
  classical
  have key : ∀ s : Finset (Fin n), ∑ k ∈ s, f k * (c : EReal) = (∑ k ∈ s, f k) * (c : EReal) := by
    intro s
    induction s using Finset.induction_on with
    | empty => simp
    | insert a s ha ih =>
      rw [Finset.sum_insert ha, Finset.sum_insert ha, ih,
        EReal.right_distrib_of_nonneg_of_ne_top (EReal.coe_nonneg.mpr hc) (EReal.coe_ne_top c)]
  exact key _

/-- An average: dividing the sum by a positive width, or multiplying each term by its reciprocal. -/
theorem mean_eq {n : ℕ} (f : Fin n → EReal) {N : ℝ} (hN : 0 < N) :
    ∑ k, f k * ((N⁻¹ : ℝ) : EReal) = Ideal.div (∑ k, f k) (N : EReal) := by
  rw [sum_mul_coe f (inv_nonneg.mpr hN.le), Ideal.div, if_neg (by exact_mod_cast hN.ne'), EReal.coe_inv]

/-- Dividing by a positive square root is multiplying by the reciprocal square root. -/
theorem mul_rsqrt (a : EReal) {v : EReal} (hv : 0 ≤ v) :
    a * Ideal.rsqrt (v + varEps) = Ideal.div a (Ideal.sqrt (v + varEps)) := by
  obtain ⟨e, he, hE⟩ := varEps_pos
  rw [hE]
  induction v using EReal.rec with
  | bot => simp at hv
  | top =>
    rw [EReal.top_add_coe, Ideal.rsqrt_top, Ideal.sqrt_top, Ideal.div, if_neg (by simp), EReal.inv_top]
  | coe r =>
    have hr : 0 ≤ r := EReal.coe_nonneg.mp hv
    have hs : 0 < r + e := by linarith
    rw [← EReal.coe_add, Ideal.rsqrt_coe, Ideal.sqrt_coe, if_neg (not_lt.mpr hs.le), if_neg hs.ne', if_neg (not_lt.mpr hs.le),
      Ideal.div, if_neg (by exact_mod_cast (Real.sqrt_pos.mpr hs).ne'), EReal.coe_inv]

/-- The two layer norms agree at gain one and offset zero, where the weight is the reciprocal of the width. -/
theorem layerNormR_eq {n : ℕ} (h g o : Fin n → EReal) {N : ℝ} (hN : 0 < N) (hg : ∀ j, g j = 1) (ho : ∀ j, o j = 0) :
    layerNormR ((N⁻¹ : ℝ) : EReal) h = layerNorm (N : EReal) h g o := by
  funext j
  unfold layerNormR layerNorm
  rw [hg, ho, mul_one, add_zero]
  simp only [mean_eq _ hN]
  refine mul_rsqrt _ ?_
  rw [← mean_eq _ hN]
  exact Finset.sum_nonneg fun k _ =>
    mul_nonneg (mul_self_nonneg _) (EReal.coe_nonneg.mpr (inv_nonneg.mpr hN.le))

/-- The two gelus agree. -/
theorem geluR_eq (x : EReal) : geluR x = gelu x := by
  unfold geluR gelu
  rw [EReal.neg_mul, Ideal.erfc_neg]

/-! ## The whole chain of one row -/

/-- The row as the reference writes it. -/
def row (x : Fin 3 → EReal) (W1 : Fin 6 → Fin 64 → EReal) (b1 g1 o1 : Fin 64 → EReal)
    (W2 : Fin 64 → Fin 128 → EReal) (b2 g2 o2 : Fin 128 → EReal) (W3 : Fin 128 → Fin 256 → EReal) (b3 : Fin 256 → EReal)
    (P1 : Fin 3 → Fin 128 → EReal) (pb1 : Fin 128 → EReal) (P2 : Fin 128 → Fin 256 → EReal) (pb2 : Fin 256 → EReal)
    (j : Fin 256) : EReal :=
  dense (fun k => gelu (layerNorm ((128 : ℝ) : EReal)
      (dense (fun k => gelu (layerNorm ((64 : ℝ) : EReal) (dense (features x (direction x)) W1 b1) g1 o1 k)) W2 b2) g2 o2 k)) W3 b3 j
    + dense (fun k => gelu (dense x P1 pb1 k)) P2 pb2 j

/-- The row as the kernel writes it: no gains and offsets, and the last two biases added up first. -/
def rowR (x : Fin 3 → EReal) (W1 : Fin 6 → Fin 64 → EReal) (b1 : Fin 64 → EReal)
    (W2 : Fin 64 → Fin 128 → EReal) (b2 : Fin 128 → EReal) (W3 : Fin 128 → Fin 256 → EReal) (b3 : Fin 256 → EReal)
    (P1 : Fin 3 → Fin 128 → EReal) (pb1 : Fin 128 → EReal) (P2 : Fin 128 → Fin 256 → EReal) (pb2 : Fin 256 → EReal)
    (j : Fin 256) : EReal :=
  (∑ k, geluR (layerNormR (((128 : ℝ)⁻¹ : ℝ) : EReal)
      (dense (fun k => geluR (layerNormR (((64 : ℝ)⁻¹ : ℝ) : EReal) (dense (features x (directionR x)) W1 b1) k)) W2 b2) k) * W3 k j)
    + (∑ k, geluR (dense x P1 pb1 k) * P2 k j) + (b3 j + pb2 j)

/-- The two rows agree at unit gains and zero offsets. -/
theorem rowR_eq (x : Fin 3 → EReal) (W1 : Fin 6 → Fin 64 → EReal) (b1 g1 o1 : Fin 64 → EReal)
    (W2 : Fin 64 → Fin 128 → EReal) (b2 g2 o2 : Fin 128 → EReal) (W3 : Fin 128 → Fin 256 → EReal) (b3 : Fin 256 → EReal)
    (P1 : Fin 3 → Fin 128 → EReal) (pb1 : Fin 128 → EReal) (P2 : Fin 128 → Fin 256 → EReal) (pb2 : Fin 256 → EReal)
    (hg1 : ∀ j, g1 j = 1) (ho1 : ∀ j, o1 j = 0) (hg2 : ∀ j, g2 j = 1) (ho2 : ∀ j, o2 j = 0) (j : Fin 256) :
    rowR x W1 b1 W2 b2 W3 b3 P1 pb1 P2 pb2 j = row x W1 b1 g1 o1 W2 b2 g2 o2 W3 b3 P1 pb1 P2 pb2 j := by
  unfold rowR row
  rw [layerNormR_eq _ g2 o2 (by norm_num) hg2 ho2, layerNormR_eq _ g1 o1 (by norm_num) hg1 ho1, directionR_eq]
  simp only [geluR_eq]
  rw [dense.eq_1 _ W3 b3, dense.eq_1 _ P2 pb2, add_add_add_comm]

end Cert.Token

end
-- ==== Proof.Block.lean ====
/-
  What one grid point of the kernel computes, read at one element.

  A grid point holds a slab of 56 image rows of one image, `v` : 1 × 3 × 56 × 224, and flattens it to 12544 pixels.
  Each stage of the body is read at pixel `t` and lane `j`, down to the row functions of `Token.lean`.
-/
module

public import proofs.«01_k».proof.Proof.Gen.KernelIdeal.Skeleton
public import proofs.«01_k».proof.Proof.Token
public import Idealize.ShloMosaic.Lib.Pointwise

@[expose] public section

set_option maxRecDepth 16384

noncomputable section

namespace Cert.Block

open Idealize.ShloMosaic Cert.KernelIdeal Cert.KernelIdeal.Gen Cert.Token
open scoped BigOperators

/-- Pixel `t` of a slab: each colour scaled from the unit interval to minus one … one. -/
def pixel (v : Vec Ideal S1x3x56x224 .f32) (t : Fin 12544) (c : Fin 3) : EReal :=
  v (ix4 0 c ⟨t.val / 224, by omega⟩ ⟨t.val % 224, by omega⟩) * Ideal.ofBits .f32 0x40000000#32 - 1

/-- The body's flattened slab at colour `c`, pixel `t`. -/
theorem pay3_apply (v : Vec Ideal S1x3x56x224 .f32) (c : Fin 3) (t : Fin 12544) :
    k0_pay3 v (ix2 c t) = pixel v t c := by
  pointwise [k0_pay3, pixel]

/-- The first layer's output before its norm, at pixel `t`. -/
abbrev hidden1 (v : Vec Ideal S1x3x56x224 .f32) (W1 : Vec Ideal S6x64 .f32) (b1 : Vec Ideal S64 .f32) (t : Fin 12544) :
    Fin 64 → EReal :=
  dense (features (pixel v t) (directionR (pixel v t))) (fun k j => W1 (ix2 k j)) (fun j => b1 (ix1 j))

/-- The body's first layer norm at pixel `t`, lane `j`. -/
theorem pay4_apply (v : Vec Ideal S1x3x56x224 .f32) (W1 : Vec Ideal S6x64 .f32) (b1 : Vec Ideal S64 .f32)
    (t : Fin 12544) (j : Fin 64) :
    k0_pay4 v W1 b1 (ix2 t j) = layerNormR (((64 : ℝ)⁻¹ : ℝ) : EReal) (hidden1 v W1 b1 t) j := by
  rw [← ofBits_inv64]
  pointwise [k0_pay4, pay3_apply, layerNormR, hidden1, dense, features, directionR]

/-- The second layer's output before its norm, at pixel `t`. -/
abbrev hidden2 (v : Vec Ideal S1x3x56x224 .f32) (W1 : Vec Ideal S6x64 .f32) (b1 : Vec Ideal S64 .f32)
    (W2 : Vec Ideal S64x128 .f32) (b2 : Vec Ideal S128 .f32) (t : Fin 12544) : Fin 128 → EReal :=
  dense (fun k => geluR (layerNormR (((64 : ℝ)⁻¹ : ℝ) : EReal) (hidden1 v W1 b1 t) k))
    (fun k j => W2 (ix2 k j)) (fun j => b2 (ix1 j))

/-- The body's second layer norm and gelu at pixel `t`, lane `j`. -/
theorem pay7_apply (v : Vec Ideal S1x3x56x224 .f32) (W1 : Vec Ideal S6x64 .f32) (b1 : Vec Ideal S64 .f32)
    (W2 : Vec Ideal S64x128 .f32) (b2 : Vec Ideal S128 .f32) (t : Fin 12544) (j : Fin 128) :
    k0_pay7 k0_pay2 (k0_pay5 v W1 b1) (k0_pay6 v W1 b1) W2 b2 (ix2 t j)
      = geluR (layerNormR (((128 : ℝ)⁻¹ : ℝ) : EReal) (hidden2 v W1 b1 W2 b2 t) j) := by
  rw [← ofBits_inv128]
  unfold hidden2
  simp only [geluR, layerNormR.eq_1 (Ideal.ofBits _ _), dense]
  pointwise [k0_pay7, k0_pay2, k0_pay5, k0_pay6, pay4_apply, Ideal.erf_def]

/-- The body's position branch at pixel `t`, lane `j`. -/
theorem pay8_apply (v : Vec Ideal S1x3x56x224 .f32) (P1 : Vec Ideal S3x128 .f32) (pb1 : Vec Ideal S128 .f32)
    (t : Fin 12544) (j : Fin 128) :
    k0_pay8 (k0_pay3 v) P1 pb1 (ix2 t j)
      = geluR (dense (pixel v t) (fun k j => P1 (ix2 k j)) (fun j => pb1 (ix1 j)) j) := by
  pointwise [k0_pay8, pay3_apply, geluR, dense, Ideal.erf_def]

/-- **The block a grid point stores, at pixel `t` and lane `j`**: the kernel's row of that pixel. -/
theorem stored_apply (v : Vec Ideal S1x3x56x224 .f32) (W1 : Vec Ideal S6x64 .f32) (b1 : Vec Ideal S64 .f32)
    (W2 : Vec Ideal S64x128 .f32) (b2 : Vec Ideal S128 .f32) (W3 : Vec Ideal S128x256 .f32) (b3 : Vec Ideal S256 .f32)
    (P1 : Vec Ideal S3x128 .f32) (pb1 : Vec Ideal S128 .f32) (P2 : Vec Ideal S128x256 .f32) (pb2 : Vec Ideal S256 .f32)
    (a : Fin 1) (t : Fin 12544) (j : Fin 256) :
    k0_pay1 (k0_pay7 k0_pay2 (k0_pay5 v W1 b1) (k0_pay6 v W1 b1) W2 b2) (k0_pay8 (k0_pay3 v) P1 pb1) W3 P2 b3 pb2 (ix3 a t j)
      = rowR (pixel v t) (fun k j => W1 (ix2 k j)) (fun j => b1 (ix1 j)) (fun k j => W2 (ix2 k j)) (fun j => b2 (ix1 j))
          (fun k j => W3 (ix2 k j)) (fun j => b3 (ix1 j)) (fun k j => P1 (ix2 k j)) (fun j => pb1 (ix1 j))
          (fun k j => P2 (ix2 k j)) (fun j => pb2 (ix1 j)) j := by
  pointwise [k0_pay1, pay7_apply, pay8_apply, rowR]

end Cert.Block

end
-- ==== Proof.Arrays.lean ====
/-
  The two result arrays as mathematics: what the network assigns to every pixel of the two images.

  Pixel `n` of an image is the pixel at row `n / 224`, column `n % 224`. `positions` is the scaled pixel itself;
  `tokens` is `Token.lean`'s row of it, and `tokensR` the row as the kernel spells it, equal at unit gains and zero
  offsets.
-/
module

public import proofs.«01_k».proof.Proof.Token
public import Idealize.ShloMosaic.Lib.Pointwise

@[expose] public section

noncomputable section

namespace Cert.Arrays

open Idealize.ShloMosaic Cert.Token

/-- An array of extended reals of one, two or three axes, or the four of the images. -/
abbrev A1 (n : ℕ) : Type := FVec Ideal ⟨1, ![n]⟩ .f32
/-- A matrix. -/
abbrev A2 (n k : ℕ) : Type := FVec Ideal ⟨2, ![n, k]⟩ .f32
/-- A result array. -/
abbrev A3 (n k l : ℕ) : Type := FVec Ideal ⟨3, ![n, k, l]⟩ .f32
/-- The two images: image, colour, row, column. -/
abbrev Images : Type := FVec Ideal ⟨4, ![2, 3, 224, 224]⟩ .f32

/-- A matrix as a function of row and column. -/
abbrev mat {n k : ℕ} (W : A2 n k) : Fin n → Fin k → EReal := fun i j => W (ix2 i j)
/-- A vector as a function of its coordinate. -/
abbrev vec {n : ℕ} (b : A1 n) : Fin n → EReal := fun j => b (ix1 j)

/-- Pixel `n` of image `b`: each colour scaled from the unit interval to minus one … one. -/
def pixel (v : Images) (b : Fin 2) (n : Fin 50176) (c : Fin 3) : EReal :=
  v (ix4 b c ⟨n.val / 224, by omega⟩ ⟨n.val % 224, by omega⟩) * Ideal.ofBits .f32 0x40000000#32 - 1

/-- The second result: every pixel's position. -/
def positions (v : Images) : A3 2 50176 3 := fun i => pixel v (i 0) (i 1) (i 2)

/-- The first result: every pixel's token. -/
def tokens (v : Images) (W1 : A2 6 64) (b1 g1 o1 : A1 64) (W2 : A2 64 128) (b2 g2 o2 : A1 128) (W3 : A2 128 256)
    (b3 : A1 256) (P1 : A2 3 128) (pb1 : A1 128) (P2 : A2 128 256) (pb2 : A1 256) : A3 2 50176 256 := fun i =>
  row (pixel v (i 0) (i 1)) (mat W1) (vec b1) (vec g1) (vec o1) (mat W2) (vec b2) (vec g2) (vec o2) (mat W3) (vec b3)
    (mat P1) (vec pb1) (mat P2) (vec pb2) (i 2)

/-- The first result as the kernel spells it. -/
def tokensR (v : Images) (W1 : A2 6 64) (b1 : A1 64) (W2 : A2 64 128) (b2 : A1 128) (W3 : A2 128 256)
    (b3 : A1 256) (P1 : A2 3 128) (pb1 : A1 128) (P2 : A2 128 256) (pb2 : A1 256) : A3 2 50176 256 := fun i =>
  rowR (pixel v (i 0) (i 1)) (mat W1) (vec b1) (mat W2) (vec b2) (mat W3) (vec b3) (mat P1) (vec pb1) (mat P2) (vec pb2) (i 2)

/-- At unit gains and zero offsets the two spellings are the same array. -/
theorem tokensR_eq (v : Images) (W1 : A2 6 64) (b1 g1 o1 : A1 64) (W2 : A2 64 128) (b2 g2 o2 : A1 128) (W3 : A2 128 256)
    (b3 : A1 256) (P1 : A2 3 128) (pb1 : A1 128) (P2 : A2 128 256) (pb2 : A1 256)
    (hg1 : ∀ j, g1 j = (1 : EReal)) (ho1 : ∀ j, o1 j = (0 : EReal)) (hg2 : ∀ j, g2 j = (1 : EReal)) (ho2 : ∀ j, o2 j = (0 : EReal)) :
    tokensR v W1 b1 W2 b2 W3 b3 P1 pb1 P2 pb2 = tokens v W1 b1 g1 o1 W2 b2 g2 o2 W3 b3 P1 pb1 P2 pb2 :=
  funext fun i => rowR_eq _ _ _ _ _ _ _ _ _ _ _ _ _ _ _ (fun _ => hg1 _) (fun _ => ho1 _) (fun _ => hg2 _) (fun _ => ho2 _) (i 2)

end Cert.Arrays

end
-- ==== Proof.Slab.lean ====
/-
  The kernel's first result array after the run.

  Grid point `t` holds rows `56 p … 56 p + 55` of image `b`, where `b` and `p` are its two coordinates, together with
  every weight array whole, and writes rows `12544 p …` of image `b` of the result. The eight blocks tile the result,
  so the array is, at image `b` and pixel `n`, the kernel's row of that pixel.
-/
module

public import proofs.«01_k».proof.Proof.Gen.KernelIdeal.Frame
public import proofs.«01_k».proof.Proof.Block
public import proofs.«01_k».proof.Proof.Arrays
public import Idealize.ShloMosaic.Lib.Pipeline.ValueKit

@[expose] public section

set_option maxRecDepth 16384

noncomputable section

namespace Cert.Slab

open Idealize.ShloMosaic Idealize.ShloMosaic.TcCoe Idealize.SL.Sem Cert.KernelIdeal Cert.KernelIdeal.Gen Cert.Token Cert.Arrays
open Idealize.ShloMosaic.Pipeline (Dat)

variable (m : (ℓ : Loc nD τ sig) → Buf (Elt Ideal) ℓ)

/-- An argument array as launched on device `c`. -/
abbrev arg (c : Dev nD) (r : Ref sig .tc) : Buf (Elt Ideal) ((c.tc : Thread nD τ).loc r) := m ((c.tc : Thread nD τ).loc r)

/-- The image window's block index at a grid point. -/
theorem index0 : ∀ t : Fin grid0.N, win0_0.index t = ![(grid0.coords t 0).val, 0, (grid0.coords t 1).val, 0] :=
  (by decide +kernel : ∀ t : Fin grid0.N, win0_0.index t = ![(grid0.coords t 0).val, 0, (grid0.coords t 1).val, 0])

/-- The result window's block index at a grid point. -/
theorem index15 : ∀ t : Fin grid0.N, win0_15.index t = ![(grid0.coords t 0).val, (grid0.coords t 1).val, 0] :=
  (by decide +kernel : ∀ t : Fin grid0.N, win0_15.index t = ![(grid0.coords t 0).val, (grid0.coords t 1).val, 0])

/-- The first weight's block is the whole array. -/
theorem block1 (c : Dev nD) (t : Fin grid0.N) : iblk m c 1 t = arg m c main_arg1 := by
  funext y
  have e : ∀ t : Fin grid0.N, win0_1.index t = ![0, 0] := by decide +kernel
  blk_ext [iblk, V, e t]

/-- The first bias's block is the whole array. -/
theorem block2 (c : Dev nD) (t : Fin grid0.N) : iblk m c 2 t = arg m c main_arg2 := by
  funext y
  have e : ∀ t : Fin grid0.N, win0_2.index t = ![0] := by decide +kernel
  blk_ext [iblk, V, e t]

/-- The second weight's block is the whole array. -/
theorem block5 (c : Dev nD) (t : Fin grid0.N) : iblk m c 5 t = arg m c main_arg5 := by
  funext y
  have e : ∀ t : Fin grid0.N, win0_5.index t = ![0, 0] := by decide +kernel
  blk_ext [iblk, V, e t]

/-- The second bias's block is the whole array. -/
theorem block6 (c : Dev nD) (t : Fin grid0.N) : iblk m c 6 t = arg m c main_arg6 := by
  funext y
  have e : ∀ t : Fin grid0.N, win0_6.index t = ![0] := by decide +kernel
  blk_ext [iblk, V, e t]

/-- The third weight's block is the whole array. -/
theorem block9 (c : Dev nD) (t : Fin grid0.N) : iblk m c 9 t = arg m c main_arg9 := by
  funext y
  have e : ∀ t : Fin grid0.N, win0_9.index t = ![0, 0] := by decide +kernel
  blk_ext [iblk, V, e t]

/-- The third bias's block is the whole array. -/
theorem block10 (c : Dev nD) (t : Fin grid0.N) : iblk m c 10 t = arg m c main_arg10 := by
  funext y
  have e : ∀ t : Fin grid0.N, win0_10.index t = ![0] := by decide +kernel
  blk_ext [iblk, V, e t]

/-- The position branch's first weight's block is the whole array. -/
theorem block11 (c : Dev nD) (t : Fin grid0.N) : iblk m c 11 t = arg m c main_arg11 := by
  funext y
  have e : ∀ t : Fin grid0.N, win0_11.index t = ![0, 0] := by decide +kernel
  blk_ext [iblk, V, e t]

/-- The position branch's first bias's block is the whole array. -/
theorem block12 (c : Dev nD) (t : Fin grid0.N) : iblk m c 12 t = arg m c main_arg12 := by
  funext y
  have e : ∀ t : Fin grid0.N, win0_12.index t = ![0] := by decide +kernel
  blk_ext [iblk, V, e t]

/-- The position branch's second weight's block is the whole array. -/
theorem block13 (c : Dev nD) (t : Fin grid0.N) : iblk m c 13 t = arg m c main_arg13 := by
  funext y
  have e : ∀ t : Fin grid0.N, win0_13.index t = ![0, 0] := by decide +kernel
  blk_ext [iblk, V, e t]

/-- The position branch's second bias's block is the whole array. -/
theorem block14 (c : Dev nD) (t : Fin grid0.N) : iblk m c 14 t = arg m c main_arg14 := by
  funext y
  have e : ∀ t : Fin grid0.N, win0_14.index t = ![0] := by decide +kernel
  blk_ext [iblk, V, e t]

/-- Pixel `s` of the slab at grid point `t` is pixel `12544 p + s` of image `b`. -/
theorem pixel_slab (c : Dev nD) (t : Fin grid0.N) (s : Fin 12544) (b : Fin 2) (n : Fin 50176)
    (hb : b.val = (grid0.coords t 0).val) (hn : n.val = (grid0.coords t 1).val * 12544 + s.val) :
    Block.pixel (iblk m c 0 t) s = pixel (arg m c main_arg0) b n := by
  funext k
  have e := index0 t
  unfold Block.pixel Arrays.pixel
  congr 2
  blk_ext [iblk, V, e]

/-- What grid point `t` stores at pixel `s`, channel `j` of its slab is the row of the pixel it sits at in the result. -/
theorem stored_slab (c : Dev nD) (t : Fin grid0.N) (a : Fin 1) (s : Fin 12544) (j : Fin 256)
    (i : (⟨3, ![2, 50176, 256]⟩ : Shape).Idx) (h0 : (i 0).val = (grid0.coords t 0).val)
    (h1 : (i 1).val = (grid0.coords t 1).val * 12544 + s.val) (h2 : (i 2).val = j.val) :
    k0_pay1 (k0_pay7 k0_pay2 (k0_pay5 (iblk m c 0 t) (iblk m c 1 t) (iblk m c 2 t))
        (k0_pay6 (iblk m c 0 t) (iblk m c 1 t) (iblk m c 2 t)) (iblk m c 5 t) (iblk m c 6 t))
      (k0_pay8 (k0_pay3 (iblk m c 0 t)) (iblk m c 11 t) (iblk m c 12 t)) (iblk m c 9 t) (iblk m c 13 t) (iblk m c 10 t)
      (iblk m c 14 t) (ValueIdx.ix3 a s j)
    = tokensR (arg m c main_arg0) (arg m c main_arg1) (arg m c main_arg2) (arg m c main_arg5) (arg m c main_arg6)
        (arg m c main_arg9) (arg m c main_arg10) (arg m c main_arg11) (arg m c main_arg12) (arg m c main_arg13)
        (arg m c main_arg14) i := by
  refine (Block.stored_apply _ _ _ _ _ _ _ _ _ _ _ a s j).trans ?_
  rw [pixel_slab m c t s (i 0) (i 1) h0 h1, block1, block2, block5, block6, block9, block10, block11, block12, block13,
    block14]
  obtain rfl : i 2 = j := Fin.ext h2
  rfl

/-- **The first result array after the run**: the kernel's row of every pixel. -/
theorem tokens_array (c : Dev nD) : (dats m 0 c).arrAt 15 cfg0.N
    = tokensR (arg m c main_arg0) (arg m c main_arg1) (arg m c main_arg2) (arg m c main_arg5) (arg m c main_arg6)
        (arg m c main_arg9) (arg m c main_arg10) (arg m c main_arg11) (arg m c main_arg12) (arg m c main_arg13)
        (arg m c main_arg14) := by
  refine (dats m 0 c).arrAt_eq_of_covers 15 _ (by decide +kernel) fun t hf y => ?_
  have e := index15 t
  blk_simp
  rw [after0_15]
  frame_out
  have h0 := win0_15.rect_emb_val t y 0 rfl
  have h1 := win0_15.rect_emb_val t y 1 rfl
  have h2 := win0_15.rect_emb_val t y 2 rfl
  rw [e] at h0 h1 h2
  rw [ValueIdx.eq_ix3 y] at *
  have z : (y 0).val = 0 := by have := (y 0).isLt; change (y 0).val < 1 at this; omega
  refine stored_slab m c t _ _ _ _ (h0.trans ?_) (h1.trans ?_) (h2.trans ?_)
  · show (grid0.coords t 0).val * 1 + (y 0).val = (grid0.coords t 0).val
    omega
  · rfl
  · show 0 * 256 + (y 2).val = (y 2).val
    omega

end Cert.Slab

end
-- ==== Proof.KernelRun.lean ====
/-
  The kernel's run: both result arrays as mathematics, in the kernel's own spelling of a row.

  The first result is what the grid leaves (`Slab.lean`). The second is computed after the grid, from the images alone:
  transposed so that the channel is last, flattened over the pixels, scaled to `2 x - 1`.
-/
module

public import proofs.«01_k».proof.Proof.Slab
public import Idealize.ShloMosaic.Lib.Claim
public import Idealize.ShloMosaic.Lib.Pointwise
public import Idealize.ShloMosaic.Lib.StableHlo.ReadAt

@[expose] public section

set_option maxRecDepth 16384

noncomputable section

namespace Cert.KernelRun

open Idealize.ShloMosaic Idealize.ShloMosaic.TcCoe Idealize.SL.Sem Cert.KernelIdeal Cert.KernelIdeal.Gen Cert.Token Cert.Arrays
open Cert.Slab (arg)

variable (m : (ℓ : Loc nD τ sig) → Buf (Elt Ideal) ℓ) (ρ : Dev nD → PrngReg)

/-- The host operations after the grid, from any contents: the second result is the images' scaled pixels. -/
theorem tail_positions (W : Valuation τ sig (Elt Ideal)) :
    StableHlo.after hostOps1 W (Proc.devRef .tc main_v0_1) = positions (W (Proc.devRef .tc main_arg0)) := by
  funext i
  obtain ⟨b, n, k, rfl⟩ : ∃ (b : Fin 2) (n : Fin 50176) (k : Fin 3), i = ValueIdx.ix3 b n k :=
    ⟨i 0, i 1, i 2, ValueIdx.eq_ix3 i⟩
  after_reads_at
  rfl

/-- **The kernel's results**: the rows and the scaled pixels of its images. -/
theorem run_results : θ_run (defs (F := Ideal)) (onTc (main (F := Ideal))) ⟨m, fun _ => 0, ρ⟩ fun r => ∀ c : Dev nD,
    r.2.mem ((c.tc : Thread nD τ).loc main_v0_0)
        = tokensR (arg m c main_arg0) (arg m c main_arg1) (arg m c main_arg2) (arg m c main_arg5) (arg m c main_arg6)
            (arg m c main_arg9) (arg m c main_arg10) (arg m c main_arg11) (arg m c main_arg12) (arg m c main_arg13)
            (arg m c main_arg14)
      ∧ r.2.mem ((c.tc : Thread nD τ).loc main_v0_1) = positions (arg m c main_arg0) := by
  run_from Gen.run_main m ρ
  · exact Slab.tokens_array m c
  · refine (tail_positions _).trans (congrArg positions ?_)
    exact (Pipeline.withArrays_arr cfg0.spec winFacts0.arr_inj c (V0 m c) _ 0).trans (((dats m 0 c).arrAt_in 0 rfl _).trans ((A_eq m c 0).trans (V_main_arg0 m c)))

end Cert.KernelRun

end
-- ==== Proof.Reference.lean ====
/-
  What the reference computes, read at one element.

  The reference scales the whole image, takes every pixel's direction, and lays the 224 × 224 pixels of each image out
  as 50176 rows; each of its stages is read here at image `b`, row `n` and lane `j`, down to the row functions of
  `Token.lean`.
-/
module

public import proofs.«01_k».proof.Proof.Gen.ReferenceIdeal.Run
public import proofs.«01_k».proof.Proof.Arrays
public import Idealize.ShloMosaic.Lib.Pointwise
public import Idealize.ShloMosaic.Lib.Quiescent
public import Idealize.ShloMosaic.Lib.Tactic.CleanTypes
public import Idealize.ShloMosaic.Lib.KernelVsHost

@[expose] public section

set_option maxRecDepth 16384

noncomputable section

namespace Cert.Reference

open Idealize.ShloMosaic Idealize.ShloMosaic.TcCoe Idealize.SL.Sem Idealize.ShloMosaic.StableHlo Cert.ReferenceIdeal Cert.ReferenceIdeal.Gen Cert.ReferenceIdeal.Value Cert.Token Cert.Arrays
open scoped BigOperators

/-- A device's buffers, as the reference finds them. -/
abbrev Bufs := Valuation τ sig (Elt Ideal)

/-- The images the reference is given. -/
abbrev img (V : Bufs) : Images := V (Proc.devRef .tc main_arg0)

/-- The scaled image at image `b`, row `r`, column `s`, colour `c`. -/
theorem v4_apply (V : Bufs) (b : Fin 2) (r s : Fin 224) (c : Fin 3) :
    res_main_v4 V (ix4 b r s c) = img V (ix4 b c r s) * Ideal.ofBits .f32 0x40000000#32 - 1 := by
  unfold res_main_v4
  clean_types
  pointwise

/-- The positions at image `b`, pixel `n`, colour `c`. -/
theorem v10_apply (V : Bufs) (b : Fin 2) (n : Fin 50176) (c : Fin 3) :
    res_main_v10 V (ix3 b n c) = pixel (img V) b n c := by
  unfold res_main_v10
  clean_types
  pointwise [v4_apply, pixel]

/-- The first layer's output before its norm, at pixel `n` of image `b`. -/
abbrev hidden1 (V : Bufs) (b : Fin 2) (n : Fin 50176) : Fin 64 → EReal :=
  dense (features (pixel (img V) b n) (direction (pixel (img V) b n)))
    (mat (n := 6) (k := 64) (V (Proc.devRef .tc main_arg1))) (vec (n := 64) (V (Proc.devRef .tc main_arg2)))

/-- The first layer at image `b`, pixel `n`, lane `j`. -/
theorem v16_apply (V : Bufs) (b : Fin 2) (n : Fin 50176) (j : Fin 64) :
    res_main_v16 V (ix3 b n j) = hidden1 V b n j := by
  unfold res_main_v16
  clean_types
  pointwise [v10_apply, v4_apply, hidden1, mat, vec, dense, features, direction, pixel]

/-- The variance's divisor, sixty-four less a zero correction, is sixty-four. -/
theorem width1 (V : Bufs) : res_main_call1_v8 V = fun _ => ((64 : ℝ) : EReal) := by
  funext i
  unfold res_main_call1_v8
  clean_types
  pointwise
  rw [show (FloatOps.sitofp .f32 0#32 : Ideal .f32) = 0 from sitofp_zero, sub_zero, ofBits_64]

/-- The variance's divisor, one hundred and twenty-eight less a zero correction. -/
theorem width2 (V : Bufs) : res_main_call2_v8 V = fun _ => ((128 : ℝ) : EReal) := by
  funext i
  unfold res_main_call2_v8
  clean_types
  pointwise
  rw [show (FloatOps.sitofp .f32 0#32 : Ideal .f32) = 0 from sitofp_zero, sub_zero, ofBits_128]

/-- The gelu of the first layer norm, at pixel `n` of image `b`: what the second layer takes. -/
abbrev act1 (V : Bufs) (b : Fin 2) (n : Fin 50176) : Fin 64 → EReal := fun k =>
  gelu (layerNorm ((64 : ℝ) : EReal) (hidden1 V b n) (vec (n := 64) (V (Proc.devRef .tc main_arg3)))
    (vec (n := 64) (V (Proc.devRef .tc main_arg4))) k)

/-- The first layer norm at image `b`, pixel `n`, lane `j`. -/
theorem v34_apply (V : Bufs) (b : Fin 2) (n : Fin 50176) (j : Fin 64) :
    res_main_v34 V (ix3 b n j) = layerNorm ((64 : ℝ) : EReal) (hidden1 V b n)
      (vec (n := 64) (V (Proc.devRef .tc main_arg3))) (vec (n := 64) (V (Proc.devRef .tc main_arg4))) j := by
  unfold res_main_v34 res_main_call1_v5
  clean_types
  pointwise [v16_apply, width1, ofBits_64, layerNorm]
  rw [if_pos (EReal.coe_pos.mpr (by norm_num))]

/-- The second layer's output before its norm, at pixel `n` of image `b`. -/
abbrev hidden2 (V : Bufs) (b : Fin 2) (n : Fin 50176) : Fin 128 → EReal :=
  dense (act1 V b n) (mat (n := 64) (k := 128) (V (Proc.devRef .tc main_arg5))) (vec (n := 128) (V (Proc.devRef .tc main_arg6)))

/-- The second layer at image `b`, pixel `n`, lane `j`. -/
theorem v45_apply (V : Bufs) (b : Fin 2) (n : Fin 50176) (j : Fin 128) :
    res_main_v45 V (ix3 b n j) = hidden2 V b n j := by
  unfold res_main_v45
  clean_types
  pointwise [v34_apply, dense, gelu]

/-- The second layer norm at image `b`, pixel `n`, lane `j`. -/
theorem v63_apply (V : Bufs) (b : Fin 2) (n : Fin 50176) (j : Fin 128) :
    res_main_v63 V (ix3 b n j) = layerNorm ((128 : ℝ) : EReal) (hidden2 V b n)
      (vec (n := 128) (V (Proc.devRef .tc main_arg7))) (vec (n := 128) (V (Proc.devRef .tc main_arg8))) j := by
  unfold res_main_v63 res_main_call2_v5
  clean_types
  pointwise [v45_apply, width2, ofBits_128, layerNorm]
  rw [if_pos (EReal.coe_pos.mpr (by norm_num))]

/-- The position branch's first layer at image `b`, pixel `n`, lane `j`. -/
theorem v78_apply (V : Bufs) (b : Fin 2) (n : Fin 50176) (j : Fin 128) :
    res_main_v78 V (ix3 b n j) = dense (pixel (img V) b n)
      (mat (n := 3) (k := 128) (V (Proc.devRef .tc main_arg11))) (vec (n := 128) (V (Proc.devRef .tc main_arg12))) j := by
  unfold res_main_v78
  clean_types
  pointwise [v10_apply, dense]

/-- The second result is the array of positions. -/
theorem positions_eq (V : Bufs) : res_main_v10 V = positions (img V) := by
  funext i
  obtain ⟨b, n, c, rfl⟩ : ∃ (b : Fin 2) (n : Fin 50176) (c : Fin 3), i = ix3 b n c := ⟨i 0, i 1, i 2, eq_ix3 i⟩
  exact v10_apply V b n c

/-- The first result, as the program's last operations build it from the stages above. -/
def result (V : Bufs) : FVec Ideal S2x50176x256 .f32 :=
  addf (addf (Host.dotGeneral (φ₂ := .f32) dot_S2x50176x128_S128x256_S2x50176x256_2_0_01_1_n_n none (mulf (mulf (broadcastInDim S2x50176x128 ![] bcast_S_S2x50176x128 (constant S_ .f32 0x3F000000#32)) (res_main_v63 V)) (Host.erfc (mulf (Host.negf (res_main_v63 V)) (broadcastInDim S2x50176x128 ![] bcast_S_S2x50176x128 (constant S_ .f32 0x3F3504F3#32))))) (V (Proc.devRef .tc main_arg9)))
      (broadcastInDim S2x50176x256 ![0, 1, 2] bcast_S1x1x256_S2x50176x256_0_1_2 (broadcastInDim S1x1x256 ![2] bcast_S256_S1x1x256_2 (V (Proc.devRef .tc main_arg10)))))
    (addf (Host.dotGeneral (φ₂ := .f32) dot_S2x50176x128_S128x256_S2x50176x256_2_0_01_1_n_n none (mulf (mulf (broadcastInDim S2x50176x128 ![] bcast_S_S2x50176x128 (constant S_ .f32 0x3F000000#32)) (res_main_v78 V)) (Host.erfc (mulf (Host.negf (res_main_v78 V)) (broadcastInDim S2x50176x128 ![] bcast_S_S2x50176x128 (constant S_ .f32 0x3F3504F3#32))))) (V (Proc.devRef .tc main_arg13)))
      (broadcastInDim S2x50176x256 ![0, 1, 2] bcast_S1x1x256_S2x50176x256_0_1_2 (broadcastInDim S1x1x256 ![2] bcast_S256_S1x1x256_2 (V (Proc.devRef .tc main_arg14)))))

/-- The first result is the array of tokens. -/
theorem tokens_eq (V : Bufs) : result V = tokens (img V) (V (Proc.devRef .tc main_arg1)) (V (Proc.devRef .tc main_arg2))
    (V (Proc.devRef .tc main_arg3)) (V (Proc.devRef .tc main_arg4)) (V (Proc.devRef .tc main_arg5)) (V (Proc.devRef .tc main_arg6))
    (V (Proc.devRef .tc main_arg7)) (V (Proc.devRef .tc main_arg8)) (V (Proc.devRef .tc main_arg9)) (V (Proc.devRef .tc main_arg10))
    (V (Proc.devRef .tc main_arg11)) (V (Proc.devRef .tc main_arg12)) (V (Proc.devRef .tc main_arg13)) (V (Proc.devRef .tc main_arg14)) := by
  funext i
  obtain ⟨b, n, j, rfl⟩ : ∃ (b : Fin 2) (n : Fin 50176) (j : Fin 256), i = ix3 b n j := ⟨i 0, i 1, i 2, eq_ix3 i⟩
  unfold result
  clean_types
  pointwise [v63_apply, v78_apply, tokens, row, gelu]
  rfl

variable (m : (ℓ : Loc nD τ sig) → Buf (Elt Ideal) ℓ) (ρ : Dev nD → PrngReg)

/-- An argument array as launched on device `c`. -/
abbrev arg (c : Dev nD) (r : Ref sig .tc) : Buf (Elt Ideal) ((c.tc : Thread nD τ).loc r) := m ((c.tc : Thread nD τ).loc r)

/-- **The reference's run**: it ends with the tokens and the positions of its arguments. -/
theorem run_results : θ_run defs (onTc (τ := τ) (main (F := Ideal))) ⟨m, fun _ => 0, ρ⟩ fun r => ∀ c : Dev nD,
      r.2.mem ((c.tc : Thread nD τ).loc main_v90) = tokens (arg m c main_arg0) (arg m c main_arg1) (arg m c main_arg2)
          (arg m c main_arg3) (arg m c main_arg4) (arg m c main_arg5) (arg m c main_arg6) (arg m c main_arg7) (arg m c main_arg8)
          (arg m c main_arg9) (arg m c main_arg10) (arg m c main_arg11) (arg m c main_arg12) (arg m c main_arg13) (arg m c main_arg14)
      ∧ r.2.mem ((c.tc : Thread nD τ).loc main_v10) = positions (arg m c main_arg0) :=
  (θ_run defs _ _).mono (fun _ h c => ⟨(h c).1.trans (tokens_eq (launchContents m c)), (h c).2.1.trans (positions_eq (launchContents m c))⟩)
    (Value.run m ρ)

/-- The reference's arguments end as they began, and no semaphore is left counting: it has none. -/
theorem frame : θ_run defs (onTc (τ := τ) (main (F := Ideal))) ⟨m, fun _ => 0, ρ⟩ fun r => (∀ c : Dev nD,
      r.2.mem ((c.tc : Thread nD τ).loc main_arg0) = arg m c main_arg0
      ∧ r.2.mem ((c.tc : Thread nD τ).loc main_arg1) = arg m c main_arg1
      ∧ r.2.mem ((c.tc : Thread nD τ).loc main_arg2) = arg m c main_arg2
      ∧ r.2.mem ((c.tc : Thread nD τ).loc main_arg3) = arg m c main_arg3
      ∧ r.2.mem ((c.tc : Thread nD τ).loc main_arg4) = arg m c main_arg4
      ∧ r.2.mem ((c.tc : Thread nD τ).loc main_arg5) = arg m c main_arg5
      ∧ r.2.mem ((c.tc : Thread nD τ).loc main_arg6) = arg m c main_arg6
      ∧ r.2.mem ((c.tc : Thread nD τ).loc main_arg7) = arg m c main_arg7
      ∧ r.2.mem ((c.tc : Thread nD τ).loc main_arg8) = arg m c main_arg8
      ∧ r.2.mem ((c.tc : Thread nD τ).loc main_arg9) = arg m c main_arg9
      ∧ r.2.mem ((c.tc : Thread nD τ).loc main_arg10) = arg m c main_arg10
      ∧ r.2.mem ((c.tc : Thread nD τ).loc main_arg11) = arg m c main_arg11
      ∧ r.2.mem ((c.tc : Thread nD τ).loc main_arg12) = arg m c main_arg12
      ∧ r.2.mem ((c.tc : Thread nD τ).loc main_arg13) = arg m c main_arg13
      ∧ r.2.mem ((c.tc : Thread nD τ).loc main_arg14) = arg m c main_arg14)
      ∧ r.2.sem = fun _ => 0 :=
  (θ_run defs _ _).mono (fun r h => ⟨fun c => (h c).2.2, sem_eq_zero_of_no_sems (by decide) r.2⟩) (Value.run m ρ)

end Cert.Reference

end
-- ==== Proof.Affine.lean ====
/-
  The precondition read off: the first and second layer norms have unit gains and zero offsets.

  The precondition's function lays the four comparisons `g1 = 1`, `be1 = 0`, `g2 = 1`, `be2 = 0` end to end. Where it is
  all ones, each comparison holds at each of its own positions.
-/
module

public import proofs.«01_k».proof.Pre_unit_affine
public import Idealize.ShloMosaic.Lib.Pointwise
public import Idealize.ShloMosaic.PureOps.Ideal

@[expose] public section

set_option maxRecDepth 16384

noncomputable section

namespace Cert.Affine

open Idealize.ShloMosaic Cert.Pre_unit_affine

/-- The shape relations the precondition's function takes. -/
instance facts : Cert.Pre_unit_affine.Facts where
  bcast_S_S64 := by decide
  bcast_S_S128 := by decide
  concatenates_S64_S64_S128_S128_S384_d0 := by decide

variable (a0 : FVec Ideal S2x3x224x224 .f32) (a1 : FVec Ideal S6x64 .f32) (a2 a3 a4 : FVec Ideal S64 .f32)
  (a5 : FVec Ideal S64x128 .f32) (a6 a7 a8 : FVec Ideal S128 .f32) (a9 : FVec Ideal S128x256 .f32) (a10 : FVec Ideal S256 .f32)
  (a11 : FVec Ideal S3x128 .f32) (a12 : FVec Ideal S128 .f32) (a13 : FVec Ideal S128x256 .f32) (a14 : FVec Ideal S256 .f32)

/-- Where the precondition is all ones, the first gain is one everywhere. -/
theorem gain1 (h : fn (F := Ideal) a0 a1 a2 a3 a4 a5 a6 a7 a8 a9 a10 a11 a12 a13 a14 = fun _ => 1#1) (j : S64.Idx) :
    a3 j = (1 : EReal) := by
  have e := congrFun h (ix1 ⟨(j 0).val, (j 0).isLt.trans (by decide)⟩)
  pointwise [fn] at e
  by_contra n
  simp [n] at e

/-- The first offset is zero everywhere. -/
theorem offset1 (h : fn (F := Ideal) a0 a1 a2 a3 a4 a5 a6 a7 a8 a9 a10 a11 a12 a13 a14 = fun _ => 1#1) (j : S64.Idx) :
    a4 j = (0 : EReal) := by
  have e := congrFun h (ix1 ⟨64 + (j 0).val, by have := (j 0).isLt; change (j 0).val < 64 at this; omega⟩)
  pointwise [fn] at e
  by_contra n
  simp [n] at e

/-- The second gain is one everywhere. -/
theorem gain2 (h : fn (F := Ideal) a0 a1 a2 a3 a4 a5 a6 a7 a8 a9 a10 a11 a12 a13 a14 = fun _ => 1#1) (j : S128.Idx) :
    a7 j = (1 : EReal) := by
  have hj : (j 0).val < 128 := (j 0).isLt
  have e := congrFun h (ix1 ⟨128 + (j 0).val, by omega⟩)
  pointwise [fn] at e
  rw [dif_neg (show ¬ 128 + (j 0).val < 64 by omega), dif_neg (show ¬ 128 + (j 0).val - 64 < 64 by omega), dif_pos (show 128 + (j 0).val - 64 - 64 < 128 by omega)] at e
  have hx : ∀ hk, (ix1 ⟨128 + (j 0).val - 64 - 64, hk⟩ : S128.Idx) = j := fun hk => by
    funext d
    match d with
    | ⟨0, _⟩ => exact Fin.ext (show 128 + (j 0).val - 64 - 64 = (j 0).val by omega)
  rw [hx] at e
  by_contra n
  simp [n] at e

/-- The second offset is zero everywhere. -/
theorem offset2 (h : fn (F := Ideal) a0 a1 a2 a3 a4 a5 a6 a7 a8 a9 a10 a11 a12 a13 a14 = fun _ => 1#1) (j : S128.Idx) :
    a8 j = (0 : EReal) := by
  have hj : (j 0).val < 128 := (j 0).isLt
  have e := congrFun h (ix1 ⟨256 + (j 0).val, by omega⟩)
  pointwise [fn] at e
  rw [dif_neg (show ¬ 256 + (j 0).val < 64 by omega), dif_neg (show ¬ 256 + (j 0).val - 64 < 64 by omega), dif_neg (show ¬ 256 + (j 0).val - 64 - 64 < 128 by omega)] at e
  have hx : ∀ hk, (ix1 ⟨256 + (j 0).val - 64 - 64 - 128, hk⟩ : S128.Idx) = j := fun hk => by
    funext d
    match d with
    | ⟨0, _⟩ => exact Fin.ext (show 256 + (j 0).val - 64 - 64 - 128 = (j 0).val by omega)
  rw [hx] at e
  by_contra n
  simp [n] at e

end Cert.Affine

end
-- ==== Proof.lean ====
/-
  The proof of the claims.

  Four kinds of claim. The frames: each program ends without a fault, its arguments as they were and every semaphore back
  at zero. The preservation: the idealized kernel is the kernel, no operation rewritten. The value: at unit gains and zero
  offsets the kernel and the reference end with the same two arrays.
-/
module

public import proofs.«01_k».proof.Defs
public import proofs.«01_k».proof.Proof.Gen.Kernel.Frame
public import proofs.«01_k».proof.Proof.KernelRun
public import proofs.«01_k».proof.Proof.Reference
public import proofs.«01_k».proof.Proof.Affine

@[expose] public section

set_option maxRecDepth 16384

noncomputable section

namespace Cert.Proof

open Idealize.ShloMosaic Idealize.ShloMosaic.TcCoe Idealize.SL.Sem Cert.Arrays

/-- The kernel's two arrays are the reference's, when both start from the same arguments and the gains are one and the
    offsets zero. Both runs also keep their arguments. -/
theorem equal : Cert.algebraic_KernelIdeal_ReferenceIdeal_pre_unit_affine := by
  intro m g m' g' pre agree
  refine ⟨fun c => tokensR (Slab.arg m c Cert.KernelIdeal.main_arg0) (Slab.arg m c Cert.KernelIdeal.main_arg1)
      (Slab.arg m c Cert.KernelIdeal.main_arg2) (Slab.arg m c Cert.KernelIdeal.main_arg5) (Slab.arg m c Cert.KernelIdeal.main_arg6)
      (Slab.arg m c Cert.KernelIdeal.main_arg9) (Slab.arg m c Cert.KernelIdeal.main_arg10)
      (Slab.arg m c Cert.KernelIdeal.main_arg11) (Slab.arg m c Cert.KernelIdeal.main_arg12)
      (Slab.arg m c Cert.KernelIdeal.main_arg13) (Slab.arg m c Cert.KernelIdeal.main_arg14),
    fun c => positions (Slab.arg m c Cert.KernelIdeal.main_arg0), ?_, ?_⟩
  · exact (θ_run Cert.KernelIdeal.defs _ _).mono (fun r h c => ⟨(h.1 c).1, (h.1 c).2, h.2.1 c⟩)
      (θ_run_and (KernelRun.run_results m g) (Cert.KernelIdeal.Gen.frame m g))
  · refine (θ_run Cert.ReferenceIdeal.defs _ _).mono (fun r h c => ?_)
      (θ_run_and (Reference.run_results m' g') (Reference.frame m' g'))
    obtain ⟨a0, a1, a2, a3, a4, a5, a6, a7, a8, a9, a10, a11, a12, a13, a14⟩ := agree c
    refine ⟨(h.1 c).1.trans ?_, (h.1 c).2.trans (congrArg positions a0), h.2.1 c⟩
    have p := pre c
    unfold Reference.arg
    rw [a0, a1, a2, a3, a4, a5, a6, a7, a8, a9, a10, a11, a12, a13, a14]
    exact (tokensR_eq _ _ _ _ _ _ _ _ _ _ _ _ _ _ _ (Affine.gain1 _ _ _ _ _ _ _ _ _ _ _ _ _ _ _ p)
      (Affine.offset1 _ _ _ _ _ _ _ _ _ _ _ _ _ _ _ p) (Affine.gain2 _ _ _ _ _ _ _ _ _ _ _ _ _ _ _ p)
      (Affine.offset2 _ _ _ _ _ _ _ _ _ _ _ _ _ _ _ p)).symm

/-- Every claim. -/
theorem claim : Cert.Claim :=
  ⟨Cert.Kernel.Gen.facts, Cert.KernelIdeal.Gen.facts, Cert.ReferenceIdeal.Gen.facts, Affine.facts,
    fun m ρ _ => Cert.Kernel.Gen.frame m ρ, fun m ρ _ => Cert.KernelIdeal.Gen.frame m ρ,
    fun m ρ _ => Cert.KernelIdeal.Gen.frame m ρ, fun m ρ _ => Reference.frame m ρ, fun m ρ _ => Reference.frame m ρ,
    trivial, equal⟩

end Cert.Proof

end
